-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_maps [hPre_finite_maps : Cert.Pre_finite_maps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_maps [hPre_finite_maps : Cert.Pre_finite_maps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_maps [hKernelIdeal : Cert.KernelIdeal.Facts] [hPre_finite_maps : Cert.Pre_finite_maps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_maps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_maps [hReferenceIdeal : Cert.ReferenceIdeal.Facts] [hPre_finite_maps : Cert.Pre_finite_maps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_maps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_maps [hKernelIdeal : Cert.KernelIdeal.Facts] [hReferenceIdeal : Cert.ReferenceIdeal.Facts] [hPre_finite_maps : Cert.Pre_finite_maps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_maps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_maps : Cert.Pre_finite_maps.Facts),
    quiescent_Kernel (hKernel := hKernel)
    ∧ quiescent_KernelIdeal (hKernelIdeal := hKernelIdeal)
    ∧ quiescent_KernelIdeal_pre_finite_maps (hKernelIdeal := hKernelIdeal) (hPre_finite_maps := hPre_finite_maps)
    ∧ quiescent_ReferenceIdeal (hReferenceIdeal := hReferenceIdeal)
    ∧ quiescent_ReferenceIdeal_pre_finite_maps (hReferenceIdeal := hReferenceIdeal) (hPre_finite_maps := hPre_finite_maps)
    ∧ preserves_Kernel_KernelIdeal
    ∧ algebraic_KernelIdeal_ReferenceIdeal_pre_finite_maps (hKernelIdeal := hKernelIdeal) (hReferenceIdeal := hReferenceIdeal) (hPre_finite_maps := hPre_finite_maps)
-- ==== Pre_finite_maps.lean ====
abbrev S32x64x128x128 : Shape := ⟨4, ![32, 64, 128, 128]⟩
abbrev S_ : Shape := ⟨0, ![]⟩

class Facts : Prop where
  bcast_S_S32x64x128x128 : S_.BroadcastsInDim S32x64x128x128 (![] : Fin 0 → Fin S32x64x128x128.rank)

variable [Facts]

def fn {F : FTy → Type} [FloatOps F] (main_arg0 : FVec F S32x64x128x128 .f32) (main_arg1 : IVec S_ 32) (main_arg2 : IVec S_ 32) : IVec S32x64x128x128 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  main_v2
-- ==== Kernel.lean ====
abbrev S32x64x128x128 : Shape := ⟨4, ![32, 64, 128, 128]⟩
abbrev S_ : Shape := ⟨0, ![]⟩
abbrev S32x1x64 : Shape := ⟨3, ![32, 1, 64]⟩
abbrev S2x64x128x128 : Shape := ⟨4, ![2, 64, 128, 128]⟩
abbrev S2x1x64 : Shape := ⟨3, ![2, 1, 64]⟩
abbrev S1x64x128x128 : Shape := ⟨4, ![1, 64, 128, 128]⟩
abbrev S64x128x128 : Shape := ⟨3, ![64, 128, 128]⟩
abbrev S128x128 : Shape := ⟨2, ![128, 128]⟩
abbrev S1x128x128 : Shape := ⟨3, ![1, 128, 128]⟩
abbrev S1x64x8x128 : Shape := ⟨4, ![1, 64, 8, 128]⟩
abbrev S64x8x128 : Shape := ⟨3, ![64, 8, 128]⟩
abbrev S1x8x128 : Shape := ⟨3, ![1, 8, 128]⟩
abbrev S1x1x128 : Shape := ⟨3, ![1, 1, 128]⟩
abbrev S1x8x1 : Shape := ⟨3, ![1, 8, 1]⟩
abbrev S64 : Shape := ⟨1, ![64]⟩
abbrev S1x1x64 : Shape := ⟨3, ![1, 1, 64]⟩
abbrev S32x64 : Shape := ⟨2, ![32, 64]⟩
abbrev S32x64x1 : Shape := ⟨3, ![32, 64, 1]⟩
abbrev S32x64x2 : Shape := ⟨3, ![32, 64, 2]⟩

abbrev nBuf : Space → Nat
  | .hbm => 13
  | .vmem => 10
  | .smem => 0
  | _ => 0

abbrev bufTy : (tb : Table) → Fin (tcTables nBuf tb) → BufTy
  | .hbm, ⟨0, _⟩ => ⟨S32x64x128x128, .f32⟩
  | .hbm, ⟨1, _⟩ => ⟨S_, .i32⟩
  | .hbm, ⟨2, _⟩ => ⟨S_, .i32⟩
  | .hbm, ⟨3, _⟩ => ⟨S32x64x128x128, .f32⟩
  | .hbm, ⟨4, _⟩ => ⟨S32x1x64, .f32⟩
  | .hbm, ⟨5, _⟩ => ⟨S32x1x64, .f32⟩
  | .hbm, ⟨6, _⟩ => ⟨S32x1x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64x1, .f32⟩
  | .hbm, ⟨11, _⟩ => ⟨S32x64x1, .f32⟩
  | .hbm, ⟨12, _⟩ => ⟨S32x64x2, .f32⟩
  | .local _ .vmem, ⟨0, _⟩ => ⟨S2x64x128x128, .f32⟩
  | .local _ .vmem, ⟨1, _⟩ => ⟨S2x64x128x128, .f32⟩
  | .local _ .vmem, ⟨2, _⟩ => ⟨S2x64x128x128, .f32⟩
  | .local _ .vmem, ⟨3, _⟩ => ⟨S2x64x128x128, .f32⟩
  | .local _ .vmem, ⟨4, _⟩ => ⟨S2x1x64, .f32⟩
  | .local _ .vmem, ⟨5, _⟩ => ⟨S2x1x64, .f32⟩
  | .local _ .vmem, ⟨6, _⟩ => ⟨S2x1x64, .f32⟩
  | .local _ .vmem, ⟨7, _⟩ => ⟨S2x1x64, .f32⟩
  | .local _ .vmem, ⟨8, _⟩ => ⟨S2x1x64, .f32⟩
  | .local _ .vmem, ⟨9, _⟩ => ⟨S2x1x64, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x64x128x128 : Shape := ⟨4, ![32, 64, 128, 128]⟩
abbrev S_ : Shape := ⟨0, ![]⟩
abbrev S32x128x128 : Shape := ⟨3, ![32, 128, 128]⟩
abbrev S32x1x128x128 : Shape := ⟨4, ![32, 1, 128, 128]⟩
abbrev S32x64 : Shape := ⟨2, ![32, 64]⟩
abbrev S128 : Shape := ⟨1, ![128]⟩
abbrev S32x64x128 : Shape := ⟨3, ![32, 64, 128]⟩
abbrev S32x64x1 : Shape := ⟨3, ![32, 64, 1]⟩
abbrev S32x64x2 : Shape := ⟨3, ![32, 64, 2]⟩

abbrev nBuf : Space → Nat
  | .hbm => 34
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S_, .i32⟩
  | .hbm, ⟨2, _⟩ => ⟨S_, .i32⟩
  | .hbm, ⟨3, _⟩ => ⟨S_, .f32⟩
  | .hbm, ⟨4, _⟩ => ⟨S32x128x128, .f32⟩
  | .hbm, ⟨5, _⟩ => ⟨S_, .f32⟩
  | .hbm, ⟨6, _⟩ => ⟨S32x128x128, .f32⟩
  | .hbm, ⟨7, _⟩ => ⟨S32x128x128, .f32⟩
  | .hbm, ⟨8, _⟩ => ⟨S32x1x128x128, .f32⟩
  | .hbm, ⟨9, _⟩ => ⟨S32x64x128x128, .f32⟩
  | .hbm, ⟨10, _⟩ => ⟨S32x64x128x128, .f32⟩
  | .hbm, ⟨11, _⟩ => ⟨S32x64x128x128, .f32⟩
  | .hbm, ⟨12, _⟩ => ⟨S_, .f32⟩
  | .hbm, ⟨13, _⟩ => ⟨S32x128x128, .f32⟩
  | .hbm, ⟨14, _⟩ => ⟨S32x1x128x128, .f32⟩
  | .hbm, ⟨15, _⟩ => ⟨S32x64x128x128, .f32⟩
  | .hbm, ⟨16, _⟩ => ⟨S32x64x128x128, .f32⟩
  | .hbm, ⟨17, _⟩ => ⟨S_, .f32⟩
  | .hbm, ⟨18, _⟩ => ⟨S32x64, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S32x64x128, .f32⟩
  | .hbm, ⟨23, _⟩ => ⟨S32x64, .f32⟩
  | .hbm, ⟨24, _⟩ => ⟨S_, .f32⟩
  | .hbm, ⟨25, _⟩ => ⟨S32x64x128, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64x1, .f32⟩
  | .hbm, ⟨32, _⟩ => ⟨S32x64x1, .f32⟩
  | .hbm, ⟨33, _⟩ => ⟨S32x64x2, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Image.lean ====
/- What the kernel makes of ONE image of the batch (64 maps of 128 rows by 128 columns), written element by element: the
   exponentials, their reciprocal sum over the maps, the normalised map, and the two sums the row tiles accumulate. -/
module

public import proofs.«01_k».proof.Proof.Gen.KernelIdeal.Skeleton
public import Idealize.ShloMosaic.Lib.Pointwise

@[expose] public section

noncomputable section

namespace Cert.Keypoint

open Idealize.ShloMosaic

/-- One image of the batch: a value per map, row and column. -/
abbrev Image := Fin 64 → Fin 128 → Fin 128 → EReal

/-- Image `b` of a stack of images. -/
def image {n : ℕ} (x : (⟨4, ![n, 64, 128, 128]⟩ : Shape).Idx → EReal) (b : Fin n) : Image :=
  fun k h w => x (ix4 b k h w)

/-- The exponential of every element, as the kernel takes it (no shift by the maximum). -/
def expo (f : Image) : Image := fun k h w => Ideal.exp (f k h w)

/-- The reciprocal of the sum of the exponentials over the maps, at a pixel. -/
def recip (f : Image) (h w : Fin 128) : EReal := Ideal.div 1 (∑ k, expo f k h w)

/-- The normalised map: exponential times reciprocal. -/
def prob (f : Image) : Image := fun k h w => expo f k h w * recip f h w

/-- Row `r` of row tile `t` is row `8 t + r` of the image (kept in range for any `t`). -/
def row (t : ℕ) (r : Fin 8) : Fin 128 := ⟨(8 * t + r) % 128, Nat.mod_lt _ (by norm_num)⟩

/-- The first `n` row tiles of the normalised map added up. -/
def acc (f : Image) (n : ℕ) (k : Fin 64) (r : Fin 8) (w : Fin 128) : EReal :=
  ∑ t ∈ Finset.range n, prob f k (row t r) w

/-- The first `n` row tiles added up, each times its number. -/
def tacc (f : Image) (n : ℕ) (k : Fin 64) (r : Fin 8) (w : Fin 128) : EReal :=
  ∑ t ∈ Finset.range n, ((t : ℝ) : EReal) * prob f k (row t r) w

/-- One more row tile. -/
theorem acc_succ (f : Image) (n : ℕ) (k : Fin 64) (r : Fin 8) (w : Fin 128) :
    acc f (n + 1) k r w = acc f n k r w + prob f k (row n r) w := Finset.sum_range_succ _ _

/-- One more row tile, times its number. -/
theorem tacc_succ (f : Image) (n : ℕ) (k : Fin 64) (r : Fin 8) (w : Fin 128) :
    tacc f (n + 1) k r w = tacc f n k r w + ((n : ℝ) : EReal) * prob f k (row n r) w := Finset.sum_range_succ _ _

/-- The first tile alone. -/
theorem acc_one (f : Image) (k : Fin 64) (r : Fin 8) (w : Fin 128) : acc f 1 k r w = prob f k (row 0 r) w := by
  rw [acc_succ, acc, Finset.sum_range_zero, zero_add]

/-- The tile numbered zero adds nothing: the weighted sum starts with the second tile. -/
theorem tacc_two (f : Image) (k : Fin 64) (r : Fin 8) (w : Fin 128) : tacc f 2 k r w = prob f k (row 1 r) w := by
  rw [tacc_succ, tacc_succ, tacc, Finset.sum_range_zero]
  simp

/-- A small natural number's 32-bit word, converted to a float: the number. -/
theorem sitofp_ofNat (n : ℕ) (hn : n < 128) :
    FloatOps.sitofp (F := Ideal) .f32 (BitVec.ofNat 32 n) = ((n : ℝ) : EReal) := by
  have h : (BitVec.ofNat 32 n).toInt = (n : ℤ) := by
    rw [BitVec.toInt_ofNat', Int.bmod_eq_of_le] <;> omega
  show (((BitVec.ofNat 32 n).toInt : ℝ) : EReal) = _
  rw [h]; norm_cast

/-- The mass of a map. -/
def zetaOf (f : Image) (k : Fin 64) : EReal := ∑ r, ∑ w, acc f 16 k r w

/-- The rounded mean column of a map. -/
def kpxOf (f : Image) (k : Fin 64) : EReal :=
  Ideal.liftRound Ideal.roundHalfEven ((∑ r, ∑ w : Fin 128, acc f 16 k r w * ((w : ℕ) : ℝ)) * Ideal.div 1 (zetaOf f k))

/-- The rounded mean row of a map, from the two accumulated sums. -/
def kpyOf (f : Image) (k : Fin 64) : EReal :=
  Ideal.liftRound Ideal.roundHalfEven ((∑ r : Fin 8, ∑ w, (((8 : ℝ) : EReal) * tacc f 16 k r w + (((r : ℕ) : ℝ) : EReal) * acc f 16 k r w)) * Ideal.div 1 (zetaOf f k))

end Cert.Keypoint

end
-- ==== Proof.Stores.lean ====
/- The map's staging buffer as the kernel fills it. For each of the block's two images the kernel stores the exponentials
   whole, then takes the rows eight at a time: it loads a tile of exponentials back, multiplies by the reciprocal sums and
   stores the tile over it. `Filled` says what the buffer holds midway; `Filled.start`, `Filled.step`, `Filled.keep` say
   what each kind of store makes of it, `Filled.load` what a load of the next tile reads. -/
module

public import proofs.«01_k».proof.Proof.Image
public import Idealize.ShloMosaic.Lib.Pipeline.Value

@[expose] public section

noncomputable section

namespace Cert.Keypoint

open Idealize.ShloMosaic Cert.KernelIdeal Cert.KernelIdeal.Gen

/-- After the stores `L`, image `b` of the staging buffer holds the normalised map of `x` in its first `t` row tiles and
    the exponentials below. -/
def Filled (x : FVec Ideal S2x64x128x128 .f32) (b : Fin 2) (t : ℕ) (L : List (View.Piece (Elt Ideal) S2x64x128x128 .f32)) : Prop :=
  ∀ (k : Fin 64) (h w : Fin 128), View.canon L (ix4 b k h w)
    = if h.val < 8 * t then prob (image x b) k h w else expo (image x b) k h w

/-- Where an element of a stored box lies in the buffer. -/
theorem emb_box {b : Fin 2} {size : Fin 4 → ℕ} {r0 : ℕ} {inb} (j : (Rect.unit (s := S2x64x128x128) ![b, 0, r0, 0] size inb).shape.Idx) (a : Fin 4) :
    ((Rect.unit (s := S2x64x128x128) ![b, 0, r0, 0] size inb).emb j a : ℕ) = (![(b : ℕ), 0, r0, 0] : Fin 4 → ℕ) a + (j a : ℕ) := by
  show _ + 1 * _ = _
  rw [Nat.one_mul]; rfl

/-- The store of the exponentials begins an image. -/
theorem Filled.start {x : FVec Ideal S2x64x128x128 .f32} (b : Fin 2) {inb} {L : List (View.Piece (Elt Ideal) S2x64x128x128 .f32)}
    {p : FVec Ideal S1x64x128x128 .f32} (hp : ∀ k h w, p (ix4 0 k h w) = expo (image x b) k h w) :
    Filled x b 0 (⟨Rect.unit (s := S2x64x128x128) ![b, 0, 0, 0] S1x64x128x128.size inb, p⟩ :: L) := by
  intro k h w
  have e : ix4 b k h w = (Rect.unit (s := S2x64x128x128) ![b, 0, 0, 0] S1x64x128x128.size inb).emb (ix4 (0 : Fin 1) k h w) := by
    funext a; apply Fin.ext; rw [emb_box]
    fin_cases a <;> simp
  rw [e, View.canon_cons_emb, if_neg (by omega)]
  exact hp k h w

/-- The store of tile `t` finishes that tile. -/
theorem Filled.step {x : FVec Ideal S2x64x128x128 .f32} {b : Fin 2} {t : ℕ} {inb} {L : List (View.Piece (Elt Ideal) S2x64x128x128 .f32)}
    {p : FVec Ideal S1x64x8x128 .f32} (hL : Filled x b t L) (ht : t < 16)
    (hp : ∀ k r w, p (ix4 0 k r w) = prob (image x b) k (row t r) w) :
    Filled x b (t + 1) (⟨Rect.unit (s := S2x64x128x128) ![b, 0, 8 * t, 0] S1x64x8x128.size inb, p⟩ :: L) := by
  intro k h w
  by_cases hin : 8 * t ≤ h.val ∧ h.val < 8 * t + 8
  · have e : ix4 b k h w = (Rect.unit (s := S2x64x128x128) ![b, 0, 8 * t, 0] S1x64x8x128.size inb).emb
        (ix4 (0 : Fin 1) k (⟨h.val - 8 * t, by omega⟩ : Fin 8) w) := by
      funext a; apply Fin.ext; rw [emb_box]
      fin_cases a <;> simp; omega
    rw [e, View.canon_cons_emb, if_pos (by omega)]
    refine (hp k _ w).trans ?_
    congr 1
    exact Fin.ext (show (8 * t + (h.val - 8 * t)) % 128 = h.val by omega)
  · rw [View.canon_cons_of_not_mem, hL]
    · exact if_congr (by omega) rfl rfl
    · rw [Rect.mem_set_unit]
      intro hm
      have := hm 2
      exact hin (by simpa using this)

/-- A store into the other image changes nothing of this one. -/
theorem Filled.keep {x : FVec Ideal S2x64x128x128 .f32} {t r0 : ℕ} {size : Fin 4 → ℕ} {inb} {L : List (View.Piece (Elt Ideal) S2x64x128x128 .f32)}
    (hL : Filled x 0 t L) {p : FVec Ideal ⟨4, size⟩ .f32} :
    Filled x 0 t (⟨Rect.unit (s := S2x64x128x128) ![(1 : Fin 2), 0, r0, 0] size inb, p⟩ :: L) := by
  intro k h w
  rw [View.canon_cons_of_not_mem, hL]
  rw [Rect.mem_set_unit]
  intro hm
  have := (hm 0).1
  simp at this

/-- A load of the next tile reads the exponentials of its rows. -/
theorem Filled.load {x : FVec Ideal S2x64x128x128 .f32} {b : Fin 2} {t : ℕ} {inb} {L : List (View.Piece (Elt Ideal) S2x64x128x128 .f32)}
    (hL : Filled x b t L) (ht : t < 16) {sig : RefSig} {κ : Kind} {sp : Space} (v : View sig κ sp S2x64x128x128 .f32)
    (k : Fin 64) (r : Fin 8) (w : Fin 128) :
    v.readCov (Val := Elt Ideal) L (Rect.unit (s := S2x64x128x128) ![b, 0, 8 * t, 0] S1x64x8x128.size inb).toLoadRect (ix4 (0 : Fin 1) k r w)
      = expo (image x b) k (row t r) w := by
  rw [View.readCov_eq_canon']
  show View.canon L ((Rect.unit (s := S2x64x128x128) ![b, 0, 8 * t, 0] S1x64x8x128.size inb).emb (ix4 (0 : Fin 1) k r w)) = _
  have hr : (row t r).val = 8 * t + r.val := Nat.mod_eq_of_lt (by omega)
  have e : (Rect.unit (s := S2x64x128x128) ![b, 0, 8 * t, 0] S1x64x8x128.size inb).emb (ix4 (0 : Fin 1) k r w) = ix4 b k (row t r) w := by
    funext a; apply Fin.ext; rw [emb_box]
    fin_cases a <;> simp [hr]
  rw [e, hL, if_neg (by omega)]

end Cert.Keypoint

end
-- ==== Proof.Tiles.lean ====
/- The vectors the kernel's body holds, said element by element as predicates over one image: a normalised tile, the
   reciprocal sums, the running sum of the tiles and the running sum of the tiles times their numbers; and what one
   operation of the body makes of them. -/
module

public import proofs.«01_k».proof.Proof.Stores

@[expose] public section

noncomputable section

namespace Cert.Keypoint

open Idealize.ShloMosaic Cert.KernelIdeal Cert.KernelIdeal.Gen

/-- `p` is row tile `t` of the normalised map. -/
def IsTile (f : Image) (t : ℕ) (p : FVec Ideal S64x8x128 .f32) : Prop := ∀ k r w, p (ix3 k r w) = prob f k (row t r) w

/-- `rs` holds the reciprocal sums. -/
def IsRecip (f : Image) (rs : FVec Ideal S1x128x128 .f32) : Prop := ∀ h w, rs (ix3 (0 : Fin 1) h w) = recip f h w

/-- `a` is the sum of the first `n` tiles. -/
def IsAcc (f : Image) (n : ℕ) (a : FVec Ideal S64x8x128 .f32) : Prop := ∀ k r w, a (ix3 k r w) = acc f n k r w

/-- `a` is the sum of the first `n` tiles, each times its number. -/
def IsTacc (f : Image) (n : ℕ) (a : FVec Ideal S64x8x128 .f32) : Prop := ∀ k r w, a (ix3 k r w) = tacc f n k r w

/-- The reciprocal sums, from the exponentials: sum over the maps, then one divided by it. -/
theorem IsRecip.of_expo {f : Image} {e : FVec Ideal S64x128x128 .f32} (he : ∀ k h w, e (ix3 k h w) = expo f k h w) {h₁ h₂} :
    IsRecip f (divf (broadcast S1x128x128 (Scalar.ofBits (F := Ideal) .f32 0x3F800000#32))
      (shapeCast S1x128x128 (multiReduction .add [0] S128x128 e 0x00000000#32 h₁ (.inl rfl) rfl) h₂)) := by
  intro h w
  pointwise [recip]
  simp only [he]

/-- The body's product of a loaded tile with its rows of the reciprocal sums, at an element. -/
theorem product_apply (u : FVec Ideal S1x64x8x128 .f32) (rs : FVec Ideal S1x128x128 .f32) (t : ℕ) (ht : t < 16) {h₁ h₂ h₃}
    (k : Fin 64) (r : Fin 8) (w : Fin 128) :
    mulf (shapeCast S64x8x128 u h₁) (broadcastTo S64x8x128 (extractStridedSlice S1x8x128 ![0, 8 * t, 0] rs h₂) h₃) (ix3 k r w)
      = u (ix4 (0 : Fin 1) k r w) * rs (ix3 (0 : Fin 1) (row t r) w) := by
  have hr : row t r = ⟨8 * t + r.val, by omega⟩ := Fin.ext (Nat.mod_eq_of_lt (by omega))
  rw [hr]
  pointwise

/-- The tile a load of the buffer and the reciprocal sums give. -/
theorem Filled.tile {x : FVec Ideal S2x64x128x128 .f32} {b : Fin 2} {t : ℕ} {L : List (View.Piece (Elt Ideal) S2x64x128x128 .f32)}
    (hL : Filled x b t L) (ht : t < 16) {rs : FVec Ideal S1x128x128 .f32} (hrs : IsRecip (image x b) rs)
    {sig : RefSig} {κ : Kind} {sp : Space} {v : View sig κ sp S2x64x128x128 .f32} {inb h₁ h₂ h₃} :
    IsTile (image x b) t (mulf
      (shapeCast S64x8x128 (v.readCov (Val := Elt Ideal) L (Rect.unit (s := S2x64x128x128) ![b, 0, 8 * t, 0] S1x64x8x128.size inb).toLoadRect) h₁)
      (broadcastTo S64x8x128 (extractStridedSlice S1x8x128 ![0, 8 * t, 0] rs h₂) h₃)) := by
  intro k r w
  exact (product_apply _ rs t ht k r w).trans (congrArg₂ (· * ·) (hL.load ht v k r w) (hrs _ w))

/-- Storing that tile over the exponentials it came from finishes it. -/
theorem Filled.next {x : FVec Ideal S2x64x128x128 .f32} {b : Fin 2} {t : ℕ} {inb} {L : List (View.Piece (Elt Ideal) S2x64x128x128 .f32)}
    (hL : Filled x b t L) (ht : t < 16) {p : FVec Ideal S64x8x128 .f32} (hp : IsTile (image x b) t p) {h₁} :
    Filled x b (t + 1) (⟨Rect.unit (s := S2x64x128x128) ![b, 0, 8 * t, 0] S1x64x8x128.size inb, shapeCast S1x64x8x128 p h₁⟩ :: L) :=
  hL.step ht fun k r w => by
    rw [← hp k r w]
    pointwise

/-- The first two tiles start the running sum. -/
theorem IsTile.acc_two {f : Image} {p q : FVec Ideal S64x8x128 .f32} (hp : IsTile f 0 p) (hq : IsTile f 1 q) :
    IsAcc f 2 (addf p q) := fun k r w => by
  rw [acc_succ, acc_one, ← hp k r w, ← hq k r w]; rfl

/-- The second tile starts the weighted sum. -/
theorem IsTile.tacc_two {f : Image} {q : FVec Ideal S64x8x128 .f32} (hq : IsTile f 1 q) : IsTacc f 2 q := fun k r w => by
  rw [Keypoint.tacc_two, hq k r w]

/-- Adding the next tile. -/
theorem IsAcc.add {f : Image} {n : ℕ} {a p : FVec Ideal S64x8x128 .f32} (ha : IsAcc f n a) (hp : IsTile f n p) :
    IsAcc f (n + 1) (addf a p) := fun k r w => by
  rw [acc_succ, ← hp k r w, ← ha k r w]; rfl

/-- Adding the next tile times its number. -/
theorem IsTacc.add {f : Image} {n : ℕ} {a p : FVec Ideal S64x8x128 .f32} {z : BitVec 32} (ha : IsTacc f n a) (hp : IsTile f n p)
    (hz : Ideal.ofBits .f32 z = ((n : ℝ) : EReal)) :
    IsTacc f (n + 1) (addf a (mulf (broadcast S64x8x128 (Scalar.ofBits (F := Ideal) .f32 z)) p)) := fun k r w => by
  rw [tacc_succ, ← hp k r w, ← ha k r w, ← hz]; rfl

end Cert.Keypoint

end
-- ==== Proof.Body.lean ====
/- The body of the kernel on one block of two images: the values its run names (a load of each row tile, the product
   stored over it, the running sums) followed one by one with the lemmas of `Tiles.lean`. -/
module

public import proofs.«01_k».proof.Proof.Tiles
public import proofs.«01_k».proof.Proof.Gen.KernelIdeal.Frame

@[expose] public section

set_option maxRecDepth 16384

noncomputable section

namespace Cert.Keypoint

open Idealize.ShloMosaic Idealize.ShloMosaic.TcCoe Cert.KernelIdeal Cert.KernelIdeal.Gen

/-- The binary32 words of the numbers 0 to 15. -/
def tileWord : Fin 16 → BitVec 32 := ![0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32]

/-- Each denotes its number. -/
theorem ofBits_tileWord (t : Fin 16) : Ideal.ofBits .f32 (tileWord t) = (((t : ℕ) : ℝ) : EReal) := by
  fin_cases t <;> simp [tileWord, Ideal.ofBits, Ideal.ieee, -EReal.coe_mul] <;> norm_num

variable (c : Dev nD) (arg1 : Memref sig .tc .vmem S2x64x128x128 .f32) (harg1 : arg1.IsWhole)
  (arg2 : Memref sig .tc .vmem S2x64x128x128 .f32) (x : FVec Ideal S2x64x128x128 .f32)

/-- The body's load of image `b` of the block. -/
abbrev loadImage (b : Fin 2) (inb : ∀ a, (![b, 0, 0, 0] : Fin 4 → ℕ) a + S1x64x128x128.size a ≤ S2x64x128x128.size a) : Vec Ideal S1x64x128x128 .f32 :=
  View.readAt (Elt Ideal) arg1.view (Rect.unit (s := S2x64x128x128) ![b, 0, 0, 0] S1x64x128x128.size inb).toLoadRect (harg1.unread x)

/-- It reads the image. -/
theorem loadImage_apply (b : Fin 2) (inb : ∀ a, (![b, 0, 0, 0] : Fin 4 → ℕ) a + S1x64x128x128.size a ≤ S2x64x128x128.size a) (k : Fin 64) (h w : Fin 128) :
    loadImage arg1 harg1 x b inb (ix4 (0 : Fin 1) k h w) = image x b k h w := by
  rw [loadImage, View.readAt_eq_ld, harg1.read_unread]
  show x ((Rect.unit (s := S2x64x128x128) ![b, 0, 0, 0] S1x64x128x128.size inb).emb (ix4 (0 : Fin 1) k h w)) = x (ix4 b k h w)
  congr 1
  funext a; apply Fin.ext; rw [emb_box]
  fin_cases a <;> simp

/-- The exponentials of a loaded image. -/
theorem exp_apply {f : Image} {u : FVec Ideal S1x64x128x128 .f32} (hu : ∀ k h w, u (ix4 (0 : Fin 1) k h w) = f k h w) {h₁}
    (k : Fin 64) (h w : Fin 128) : exp (shapeCast S64x128x128 u h₁) (ix3 k h w) = expo f k h w := by
  pointwise [expo]
  rw [hu]

/-- The exponentials as they are stored, with the unit axis back. -/
theorem exp_stored {f : Image} {e : FVec Ideal S64x128x128 .f32} (he : ∀ k h w, e (ix3 k h w) = expo f k h w) {h₁}
    (k : Fin 64) (h w : Fin 128) : shapeCast S1x64x128x128 e h₁ (ix4 (0 : Fin 1) k h w) = expo f k h w := by
  rw [← he]
  pointwise

open kernelRun0_A.sl

/-- THE FIRST IMAGE. When its sixteenth tile is about to be stored the buffer holds fifteen finished tiles, and the body
    holds the last tile, the sum of the first fifteen and the weighted sum of the first fifteen. -/
theorem first_image :
    Filled x 0 15 (H1_16 c arg1 harg1 arg2 x) ∧ IsTile (image x 0) 15 (r_17 c arg1 harg1 arg2 x)
      ∧ IsAcc (image x 0) 15 (r_15 c arg1 harg1 arg2 x) ∧ IsTacc (image x 0) 15 (r_16 c arg1 harg1 arg2 x) := by
  have e : ∀ k h w, k0_pay6 (loadImage arg1 harg1 x 0 inb_S2x64x128x128_S1x64x128x128_0_0_0_0) (ix3 k h w) = expo (image x 0) k h w := exp_apply (loadImage_apply arg1 harg1 x 0 _)
  have R : IsRecip (image x 0) (r c arg1 harg1 x) := IsRecip.of_expo e
  have f0 : Filled x 0 0 (H1_1 c arg1 harg1 x) := Filled.start 0 (exp_stored e)
  have t0 : IsTile (image x 0) 0 (k0_pay9 (loadImage arg1 harg1 x 0 inb_S2x64x128x128_S1x64x128x128_0_0_0_0) (v10 c arg1 harg1 arg2 x)) := f0.tile (by norm_num) R
  have f1 : Filled x 0 1 (H1_2 c arg1 harg1 arg2 x) := f0.next (by norm_num) t0
  have t1 : IsTile (image x 0) 1 (k0_pay11 (loadImage arg1 harg1 x 0 inb_S2x64x128x128_S1x64x128x128_0_0_0_0) (v18 c arg1 harg1 arg2 x)) := f1.tile (by norm_num) R
  have f2 : Filled x 0 2 (H1_3 c arg1 harg1 arg2 x) := f1.next (by norm_num) t1
  have t2 : IsTile (image x 0) 2 (k0_pay14 (r c arg1 harg1 x) (v27 c arg1 harg1 arg2 x)) := f2.tile (by norm_num) R
  have f3 : Filled x 0 3 (H1_4 c arg1 harg1 arg2 x) := f2.next (by norm_num) t2
  have t3 : IsTile (image x 0) 3 (k0_pay16 (r c arg1 harg1 x) (v39 c arg1 harg1 arg2 x)) := f3.tile (by norm_num) R
  have f4 : Filled x 0 4 (H1_5 c arg1 harg1 arg2 x) := f3.next (by norm_num) t3
  have t4 : IsTile (image x 0) 4 (r_4 c arg1 harg1 arg2 x) := f4.tile (by norm_num) R
  have f5 : Filled x 0 5 (H1_6 c arg1 harg1 arg2 x) := f4.next (by norm_num) t4
  have t5 : IsTile (image x 0) 5 (k0_pay22 (r c arg1 harg1 x) (v63 c arg1 harg1 arg2 x)) := f5.tile (by norm_num) R
  have f6 : Filled x 0 6 (H1_7 c arg1 harg1 arg2 x) := f5.next (by norm_num) t5
  have t6 : IsTile (image x 0) 6 (k0_pay24 (r c arg1 harg1 x) (v75 c arg1 harg1 arg2 x)) := f6.tile (by norm_num) R
  have f7 : Filled x 0 7 (H1_8 c arg1 harg1 arg2 x) := f6.next (by norm_num) t6
  have t7 : IsTile (image x 0) 7 (r_8 c arg1 harg1 arg2 x) := f7.tile (by norm_num) R
  have f8 : Filled x 0 8 (H1_9 c arg1 harg1 arg2 x) := f7.next (by norm_num) t7
  have t8 : IsTile (image x 0) 8 (k0_pay30 (r c arg1 harg1 x) (v99 c arg1 harg1 arg2 x)) := f8.tile (by norm_num) R
  have f9 : Filled x 0 9 (H1_10 c arg1 harg1 arg2 x) := f8.next (by norm_num) t8
  have t9 : IsTile (image x 0) 9 (k0_pay32 (r c arg1 harg1 x) (v111 c arg1 harg1 arg2 x)) := f9.tile (by norm_num) R
  have f10 : Filled x 0 10 (H1_11 c arg1 harg1 arg2 x) := f9.next (by norm_num) t9
  have t10 : IsTile (image x 0) 10 (k0_pay38 (r_11 c arg1 harg1 arg2 x) (r_12 c arg1 harg1 x)) := f10.tile (by norm_num) R (h₂ := slices_S1x128x128_o0_80_0_S1x8x128)
  have f11 : Filled x 0 11 (H1_12 c arg1 harg1 arg2 x) := f10.next (by norm_num) t10
  have t11 : IsTile (image x 0) 11 (k0_pay40 (r c arg1 harg1 x) (v135 c arg1 harg1 arg2 x)) := f11.tile (by norm_num) R
  have f12 : Filled x 0 12 (H1_13 c arg1 harg1 arg2 x) := f11.next (by norm_num) t11
  have t12 : IsTile (image x 0) 12 (k0_pay42 (r c arg1 harg1 x) (v147 c arg1 harg1 arg2 x)) := f12.tile (by norm_num) R
  have f13 : Filled x 0 13 (H1_14 c arg1 harg1 arg2 x) := f12.next (by norm_num) t12
  have t13 : IsTile (image x 0) 13 (k0_pay46 (r c arg1 harg1 x) (v159 c arg1 harg1 arg2 x)) := f13.tile (by norm_num) R
  have f14 : Filled x 0 14 (H1_15 c arg1 harg1 arg2 x) := f13.next (by norm_num) t13
  have t14 : IsTile (image x 0) 14 (k0_pay48 (r c arg1 harg1 x) (v171 c arg1 harg1 arg2 x)) := f14.tile (by norm_num) R
  have f15 : Filled x 0 15 (H1_16 c arg1 harg1 arg2 x) := f14.next (by norm_num) t14
  have t15 : IsTile (image x 0) 15 (r_17 c arg1 harg1 arg2 x) := f15.tile (by norm_num) R
  have a2 : IsAcc (image x 0) 2 (r_2 c arg1 harg1 arg2 x) := t0.acc_two t1
  have a5 : IsAcc (image x 0) 5 (r_5 c arg1 harg1 arg2 x) := ((a2.add t2).add t3).add t4
  have a7 : IsAcc (image x 0) 7 (r_6 c arg1 harg1 arg2 x) := (a5.add t5).add t6
  have a10 : IsAcc (image x 0) 10 (r_9 c arg1 harg1 arg2 x) := ((a7.add t7).add t8).add t9
  have a13 : IsAcc (image x 0) 13 (r_13 c arg1 harg1 arg2 x) := ((a10.add t10).add t11).add t12
  have b2 : IsTacc (image x 0) 2 (r_1 c arg1 harg1 arg2 x) := t1.tacc_two
  have b4 : IsTacc (image x 0) 4 (r_3 c arg1 harg1 arg2 x) := (b2.add t2 (ofBits_tileWord 2)).add t3 (ofBits_tileWord 3)
  have b7 : IsTacc (image x 0) 7 (r_7 c arg1 harg1 arg2 x) :=
    ((b4.add t4 (ofBits_tileWord 4)).add t5 (ofBits_tileWord 5)).add t6 (ofBits_tileWord 6)
  have b10 : IsTacc (image x 0) 10 (r_10 c arg1 harg1 arg2 x) :=
    ((b7.add t7 (ofBits_tileWord 7)).add t8 (ofBits_tileWord 8)).add t9 (ofBits_tileWord 9)
  have b13 : IsTacc (image x 0) 13 (r_14 c arg1 harg1 arg2 x) :=
    ((b10.add t10 (ofBits_tileWord 10)).add t11 (ofBits_tileWord 11)).add t12 (ofBits_tileWord 12)
  exact ⟨f15, t15, (a13.add t13).add t14, (b13.add t13 (ofBits_tileWord 13)).add t14 (ofBits_tileWord 14)⟩

/-- THE SECOND IMAGE, its stores made over the first image's: the list of all 34 stores leaves both images finished. -/
theorem second_image :
    (Filled x 0 16 (H1_33 c arg1 harg1 arg2 x) ∧ Filled x 1 15 (H1_33 c arg1 harg1 arg2 x)) ∧ IsTile (image x 1) 15 (k0_pay104 (r_19 c arg1 harg1 x) (v407 c arg1 harg1 arg2 x))
      ∧ IsAcc (image x 1) 16 (r_35 c arg1 harg1 arg2 x) ∧ IsTacc (image x 1) 16 (r_36 c arg1 harg1 arg2 x) := by
  obtain ⟨p15, q15, -, -⟩ := first_image c arg1 harg1 arg2 x
  have e : ∀ (k : Fin 64) (h w : Fin 128), r_18 (F := Ideal) c arg1 harg1 x (ix3 k h w) = expo (image x 1) k h w := exp_apply (loadImage_apply arg1 harg1 x 1 _)
  have R : IsRecip (image x 1) (r_19 c arg1 harg1 x) := IsRecip.of_expo e
  have f0 : Filled x 1 0 (H1_18 c arg1 harg1 arg2 x) := Filled.start 1 (exp_stored e)
  have g0 : Filled x 0 16 (H1_18 c arg1 harg1 arg2 x) := (p15.next (by norm_num) q15).keep
  have t0 : IsTile (image x 1) 0 (k0_pay63 (r_18 c arg1 harg1 x) (v234 c arg1 harg1 arg2 x)) := f0.tile (by norm_num) R
  have f1 : Filled x 1 1 (H1_19 c arg1 harg1 arg2 x) := f0.next (by norm_num) t0
  have g1 : Filled x 0 16 (H1_19 c arg1 harg1 arg2 x) := g0.keep
  have t1 : IsTile (image x 1) 1 (r_20 c arg1 harg1 arg2 x) := f1.tile (by norm_num) R
  have f2 : Filled x 1 2 (H1_20 c arg1 harg1 arg2 x) := f1.next (by norm_num) t1
  have g2 : Filled x 0 16 (H1_20 c arg1 harg1 arg2 x) := g1.keep
  have t2 : IsTile (image x 1) 2 (r_22 c arg1 harg1 arg2 x) := f2.tile (by norm_num) R
  have f3 : Filled x 1 3 (H1_21 c arg1 harg1 arg2 x) := f2.next (by norm_num) t2
  have g3 : Filled x 0 16 (H1_21 c arg1 harg1 arg2 x) := g2.keep
  have t3 : IsTile (image x 1) 3 (k0_pay70 (r_19 c arg1 harg1 x) (v263 c arg1 harg1 arg2 x)) := f3.tile (by norm_num) R
  have f4 : Filled x 1 4 (H1_22 c arg1 harg1 arg2 x) := f3.next (by norm_num) t3
  have g4 : Filled x 0 16 (H1_22 c arg1 harg1 arg2 x) := g3.keep
  have t4 : IsTile (image x 1) 4 (k0_pay72 (r_19 c arg1 harg1 x) (v275 c arg1 harg1 arg2 x)) := f4.tile (by norm_num) R
  have f5 : Filled x 1 5 (H1_23 c arg1 harg1 arg2 x) := f4.next (by norm_num) t4
  have g5 : Filled x 0 16 (H1_23 c arg1 harg1 arg2 x) := g4.keep
  have t5 : IsTile (image x 1) 5 (k0_pay78 (r_25 c arg1 harg1 arg2 x) (r_26 c arg1 harg1 x)) := f5.tile (by norm_num) R (h₂ := slices_S1x128x128_o0_40_0_S1x8x128)
  have f6 : Filled x 1 6 (H1_24 c arg1 harg1 arg2 x) := f5.next (by norm_num) t5
  have g6 : Filled x 0 16 (H1_24 c arg1 harg1 arg2 x) := g5.keep
  have t6 : IsTile (image x 1) 6 (k0_pay80 (r_19 c arg1 harg1 x) (v299 c arg1 harg1 arg2 x)) := f6.tile (by norm_num) R
  have f7 : Filled x 1 7 (H1_25 c arg1 harg1 arg2 x) := f6.next (by norm_num) t6
  have g7 : Filled x 0 16 (H1_25 c arg1 harg1 arg2 x) := g6.keep
  have t7 : IsTile (image x 1) 7 (k0_pay82 (r_19 c arg1 harg1 x) (v311 c arg1 harg1 arg2 x)) := f7.tile (by norm_num) R
  have f8 : Filled x 1 8 (H1_26 c arg1 harg1 arg2 x) := f7.next (by norm_num) t7
  have g8 : Filled x 0 16 (H1_26 c arg1 harg1 arg2 x) := g7.keep
  have t8 : IsTile (image x 1) 8 (k0_pay86 (r_19 c arg1 harg1 x) (v323 c arg1 harg1 arg2 x)) := f8.tile (by norm_num) R
  have f9 : Filled x 1 9 (H1_27 c arg1 harg1 arg2 x) := f8.next (by norm_num) t8
  have g9 : Filled x 0 16 (H1_27 c arg1 harg1 arg2 x) := g8.keep
  have t9 : IsTile (image x 1) 9 (k0_pay88 (r_19 c arg1 harg1 x) (v335 c arg1 harg1 arg2 x)) := f9.tile (by norm_num) R
  have f10 : Filled x 1 10 (H1_28 c arg1 harg1 arg2 x) := f9.next (by norm_num) t9
  have g10 : Filled x 0 16 (H1_28 c arg1 harg1 arg2 x) := g9.keep
  have t10 : IsTile (image x 1) 10 (r_31 c arg1 harg1 arg2 x) := f10.tile (by norm_num) R
  have f11 : Filled x 1 11 (H1_29 c arg1 harg1 arg2 x) := f10.next (by norm_num) t10
  have g11 : Filled x 0 16 (H1_29 c arg1 harg1 arg2 x) := g10.keep
  have t11 : IsTile (image x 1) 11 (k0_pay94 (r_19 c arg1 harg1 x) (v359 c arg1 harg1 arg2 x)) := f11.tile (by norm_num) R
  have f12 : Filled x 1 12 (H1_30 c arg1 harg1 arg2 x) := f11.next (by norm_num) t11
  have g12 : Filled x 0 16 (H1_30 c arg1 harg1 arg2 x) := g11.keep
  have t12 : IsTile (image x 1) 12 (k0_pay96 (r_19 c arg1 harg1 x) (v371 c arg1 harg1 arg2 x)) := f12.tile (by norm_num) R
  have f13 : Filled x 1 13 (H1_31 c arg1 harg1 arg2 x) := f12.next (by norm_num) t12
  have g13 : Filled x 0 16 (H1_31 c arg1 harg1 arg2 x) := g12.keep
  have t13 : IsTile (image x 1) 13 (r_34 c arg1 harg1 arg2 x) := f13.tile (by norm_num) R
  have f14 : Filled x 1 14 (H1_32 c arg1 harg1 arg2 x) := f13.next (by norm_num) t13
  have g14 : Filled x 0 16 (H1_32 c arg1 harg1 arg2 x) := g13.keep
  have t14 : IsTile (image x 1) 14 (k0_pay102 (r_19 c arg1 harg1 x) (v395 c arg1 harg1 arg2 x)) := f14.tile (by norm_num) R
  have f15 : Filled x 1 15 (H1_33 c arg1 harg1 arg2 x) := f14.next (by norm_num) t14
  have g15 : Filled x 0 16 (H1_33 c arg1 harg1 arg2 x) := g14.keep
  have t15 : IsTile (image x 1) 15 (k0_pay104 (r_19 c arg1 harg1 x) (v407 c arg1 harg1 arg2 x)) := f15.tile (by norm_num) R
  have a2 : IsAcc (image x 1) 2 (r_21 c arg1 harg1 arg2 x) := t0.acc_two t1
  have a5 : IsAcc (image x 1) 5 (r_23 c arg1 harg1 arg2 x) := ((a2.add t2).add t3).add t4
  have a8 : IsAcc (image x 1) 8 (r_27 c arg1 harg1 arg2 x) := ((a5.add t5).add t6).add t7
  have a10 : IsAcc (image x 1) 10 (r_29 c arg1 harg1 arg2 x) := (a8.add t8).add t9
  have a13 : IsAcc (image x 1) 13 (r_32 c arg1 harg1 arg2 x) := ((a10.add t10).add t11).add t12
  have b2 : IsTacc (image x 1) 2 (r_20 c arg1 harg1 arg2 x) := t1.tacc_two
  have b5 : IsTacc (image x 1) 5 (r_24 c arg1 harg1 arg2 x) := ((b2.add t2 (ofBits_tileWord 2)).add t3 (ofBits_tileWord 3)).add t4 (ofBits_tileWord 4)
  have b8 : IsTacc (image x 1) 8 (r_28 c arg1 harg1 arg2 x) := ((b5.add t5 (ofBits_tileWord 5)).add t6 (ofBits_tileWord 6)).add t7 (ofBits_tileWord 7)
  have b10 : IsTacc (image x 1) 10 (r_30 c arg1 harg1 arg2 x) := (b8.add t8 (ofBits_tileWord 8)).add t9 (ofBits_tileWord 9)
  have b13 : IsTacc (image x 1) 13 (r_33 c arg1 harg1 arg2 x) := ((b10.add t10 (ofBits_tileWord 10)).add t11 (ofBits_tileWord 11)).add t12 (ofBits_tileWord 12)
  exact ⟨⟨g15, f15⟩, t15, ((a13.add t13).add t14).add t15,
    ((b13.add t13 (ofBits_tileWord 13)).add t14 (ofBits_tileWord 14)).add t15 (ofBits_tileWord 15)⟩

end Cert.Keypoint

end
-- ==== Proof.Block.lean ====
/- What one grid point leaves in the four output blocks: the normalised map of each of its two images, the masses of the
   maps and the two rounded means. -/
module

public import proofs.«01_k».proof.Proof.Body

@[expose] public section

set_option maxRecDepth 16384

noncomputable section

namespace Cert.Keypoint

open Idealize.ShloMosaic Idealize.ShloMosaic.TcCoe Idealize.ShloMosaic.Tactic Cert.KernelIdeal Cert.KernelIdeal.Gen

/-- The sum of all sixteen tiles, summed over rows and columns, is the mass of a map. -/
theorem IsAcc.zeta {f : Image} {a : FVec Ideal S64x8x128 .f32} (ha : IsAcc f 16 a) (k : Fin 64) :
    k0_pay3 a (ix3 (0 : Fin 1) (0 : Fin 1) k) = zetaOf f k := by
  pointwise [k0_pay3, k0_pay1, zetaOf]
  simp only [ha _ _ _]

/-- The rounded mean column. -/
theorem IsAcc.kpx {f : Image} {a : FVec Ideal S64x8x128 .f32} (ha : IsAcc f 16 a) (k : Fin 64) :
    k0_pay4 a k0_pay108 (ix3 (0 : Fin 1) (0 : Fin 1) k) = kpxOf f k := by
  pointwise [k0_pay4, k0_pay2, k0_pay1, k0_pay108, kpxOf, zetaOf]
  simp only [ha _ _ _, fun w : Fin 128 => sitofp_ofNat w w.isLt]

/-- The rounded mean row. -/
theorem IsAcc.kpy {f : Image} {a ta : FVec Ideal S64x8x128 .f32} (ha : IsAcc f 16 a) (hta : IsTacc f 16 ta) (k : Fin 64) :
    k0_pay5 a ta k0_pay109 (ix3 (0 : Fin 1) (0 : Fin 1) k) = kpyOf f k := by
  pointwise [k0_pay5, k0_pay2, k0_pay1, k0_pay109, kpyOf, zetaOf]
  simp only [ha _ _ _, hta _ _ _, fun r : Fin 8 => sitofp_ofNat r (by omega), show Ideal.ofBits .f32 0x41000000#32 = ((8 : ℝ) : EReal) from by
    simpa [tileWord] using ofBits_tileWord 8]

/-- What is left in a block of 2 × 1 × 64 results after the two images' rows are stored, the second over the first. -/
theorem rows_apply {inb₀ inb₁} {p q : FVec Ideal S1x1x64 .f32} (g : Fin 2 → Fin 64 → EReal)
    (hp : ∀ k, p (ix3 (0 : Fin 1) (0 : Fin 1) k) = g 0 k) (hq : ∀ k, q (ix3 (0 : Fin 1) (0 : Fin 1) k) = g 1 k) (b : Fin 2) (k : Fin 64) :
    View.canon (Val := Elt Ideal) (e := .f32) [⟨Rect.unit (s := S2x1x64) ![1, 0, 0] S1x1x64.size inb₁, q⟩,
      ⟨Rect.unit (s := S2x1x64) ![0, 0, 0] S1x1x64.size inb₀, p⟩] (ix3 b (0 : Fin 1) k) = g b k := by
  have e : ∀ (b : ℕ) (hb : b < 2) (inb), ix3 (⟨b, hb⟩ : Fin 2) (0 : Fin 1) k
      = (Rect.unit (s := S2x1x64) ![b, 0, 0] S1x1x64.size inb).emb (ix3 (0 : Fin 1) (0 : Fin 1) k) := by
    intro b hb inb
    funext a; apply Fin.ext
    show _ = (![b, 0, 0] : Fin 3 → ℕ) a + 1 * _
    rw [Nat.one_mul]
    fin_cases a <;> simp
  match b with
  | 0 =>
    rw [View.canon_cons_of_not_mem]
    · rw [show (0 : Fin 2) = ⟨0, by norm_num⟩ from rfl, e 0 (by norm_num) inb₀, View.canon_cons_emb]; exact hp k
    · rw [Rect.mem_set_unit]
      intro hm
      have := (hm 0).1
      simp at this
  | 1 =>
    rw [show (1 : Fin 2) = ⟨1, by norm_num⟩ from rfl, e 1 (by norm_num) inb₁, View.canon_cons_emb]; exact hq k

variable (c : Dev nD) (i : grid0.Coords) (arg1 : Memref sig .tc .vmem S2x64x128x128 .f32) (harg1 : arg1.IsWhole) (arg2 : Memref sig .tc .vmem S2x64x128x128 .f32) (harg2 : arg2.IsWhole) (arg3 : Memref sig .tc .vmem S2x1x64 .f32) (harg3 : arg3.IsWhole) (arg4 : Memref sig .tc .vmem S2x1x64 .f32) (harg4 : arg4.IsWhole) (arg5 : Memref sig .tc .vmem S2x1x64 .f32) (harg5 : arg5.IsWhole)
  (x : FVec Ideal S2x64x128x128 .f32)

/-- The block of the map: both images normalised. -/
theorem out_map (b : Fin 2) (k : Fin 64) (h w : Fin 128) :
    out0_A_1 (F := Ideal) c i arg1 harg1 arg2 harg2 arg3 harg3 arg4 harg4 arg5 harg5 x (ix4 b k h w) = prob (image x b) k h w := by
  obtain ⟨⟨f0, f1⟩, t15, -, -⟩ := second_image c arg1 harg1 arg2 x
  have h0 := f0.keep (r0 := 120) (size := S1x64x8x128.size) (inb := inb_S2x64x128x128_S1x64x8x128_1_0_120_0)
    (p := k0_pay105 (kernelRun0_A.sl.r_19 c arg1 harg1 x) (kernelRun0_A.sl.v407 c arg1 harg1 arg2 x))
  have h1 := f1.next (inb := inb_S2x64x128x128_S1x64x8x128_1_0_120_0) (by norm_num) t15 (h₁ := shapeCasts_S64x8x128_S1x64x8x128)
  rw [out0_A_1, View.read_writes_junk_eq_canon]
  unfold kernelRun0_A
  dsimp only
  match b with
  | 0 => exact (h0 k h w).trans (if_pos (by omega))
  | 1 => exact (h1 k h w).trans (if_pos (by omega))

/-- The masses. -/
theorem out_zeta (b : Fin 2) (k : Fin 64) :
    out0_A_2 (F := Ideal) c i arg1 harg1 arg2 harg2 arg3 harg3 arg4 harg4 arg5 harg5 x (ix3 b (0 : Fin 1) k) = zetaOf (image x b) k := by
  obtain ⟨-, t15, a15, -⟩ := first_image c arg1 harg1 arg2 x
  obtain ⟨-, -, a16, -⟩ := second_image c arg1 harg1 arg2 x
  rw [out0_A_2, View.read_writes_junk_eq_canon]
  unfold kernelRun0_A
  dsimp only
  exact rows_apply (fun b k => zetaOf (image x b) k) (a15.add t15).zeta a16.zeta b k

/-- The rounded mean columns. -/
theorem out_kpx (b : Fin 2) (k : Fin 64) :
    out0_A_3 (F := Ideal) c i arg1 harg1 arg2 harg2 arg3 harg3 arg4 harg4 arg5 harg5 x (ix3 b (0 : Fin 1) k) = kpxOf (image x b) k := by
  obtain ⟨-, t15, a15, -⟩ := first_image c arg1 harg1 arg2 x
  obtain ⟨-, -, a16, -⟩ := second_image c arg1 harg1 arg2 x
  rw [out0_A_3, View.read_writes_junk_eq_canon]
  unfold kernelRun0_A
  dsimp only
  exact rows_apply (fun b k => kpxOf (image x b) k) (a15.add t15).kpx a16.kpx b k

/-- The rounded mean rows. -/
theorem out_kpy (b : Fin 2) (k : Fin 64) :
    out0_A_4 (F := Ideal) c i arg1 harg1 arg2 harg2 arg3 harg3 arg4 harg4 arg5 harg5 x (ix3 b (0 : Fin 1) k) = kpyOf (image x b) k := by
  obtain ⟨-, t15, a15, b15⟩ := first_image c arg1 harg1 arg2 x
  obtain ⟨-, -, a16, b16⟩ := second_image c arg1 harg1 arg2 x
  rw [out0_A_4, View.read_writes_junk_eq_canon]
  unfold kernelRun0_A
  dsimp only
  exact rows_apply (fun b k => kpyOf (image x b) k) ((a15.add t15).kpy (b15.add t15 (ofBits_tileWord 15))) (a16.kpy b16) b k

end Cert.Keypoint

end
-- ==== Proof.Arrays.lean ====
/-
  What the four output arrays of the kernel hold after the whole run: at every image of the batch, the quantities that one
  block's computation leaves for it.
-/
module

public import proofs.«01_k».proof.Proof.Block
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Keypoint

variable (m : (ℓ : Loc nD τ sig) → Buf (Elt Ideal) ℓ)

/-- The batch of logit maps, as the run finds it. -/
abbrev logits (c : Dev nD) : S32x64x128x128.Idx → EReal := m ((c : Thread nD τ).loc main_arg0)

/-- The image that place `b` of the block of point `t` holds. -/
def place (t : Fin cfg0.N) (b : Fin 2) : Fin 32 :=
  ⟨2 * t.val + b.val, by have := t.isLt; have h16 : cfg0.N = 16 := N_0; omega⟩

/-- Every window's block of point `t` is the `t`-th along the batch and the first along the other axes. -/
theorem idx_facts : ∀ t : Fin cfg0.N,
    win0_0.index t = ![t.val, 0, 0, 0] ∧ win0_1.index t = ![t.val, 0, 0, 0] ∧ win0_2.index t = ![t.val, 0, 0]
      ∧ win0_3.index t = ![t.val, 0, 0] ∧ win0_4.index t = ![t.val, 0, 0] :=
  (by decide +kernel : ∀ t : Fin grid0.N, _)

/-- The input block of point `t` holds images `2t` and `2t + 1`. -/
theorem image_iblk (c : Dev nD) (t : Fin cfg0.N) (b : Fin 2) :
    image (n := 2) (iblk m c 0 t) b = image (n := 32) (logits m c) (place t b) := by
  obtain ⟨h0, -⟩ := idx_facts t
  funext k h w
  unfold image iblk
  rw [View.read_apply]
  show m ((c : Thread nD τ).loc main_arg0) _ = m ((c : Thread nD τ).loc main_arg0) _
  congr 1
  funext a
  apply Fin.ext
  match a with
  | ⟨0, _⟩ => show win0_0.index t 0 * 2 + 1 * b.val = 2 * t.val + b.val; rw [h0]; simp; omega
  | ⟨1, _⟩ => show win0_0.index t 1 * 64 + 1 * k.val = k.val; rw [h0]; simp
  | ⟨2, _⟩ => show win0_0.index t 2 * 128 + 1 * h.val = h.val; rw [h0]; simp
  | ⟨3, _⟩ => show win0_0.index t 3 * 128 + 1 * w.val = w.val; rw [h0]; simp

/-- The array of probabilities. -/
def mapArray (X : S32x64x128x128.Idx → EReal) : S32x64x128x128.Idx → EReal :=
  fun i => prob (image (n := 32) X (i 0)) (i 1) (i 2) (i 3)

/-- The array of one number `q` per image and keypoint. -/
def rowArray (q : Image → Fin 64 → EReal) (X : S32x64x128x128.Idx → EReal) : S32x1x64.Idx → EReal :=
  fun i => q (image (n := 32) X (i 0)) (i 2)

/-- Point `t` writes block `t` of the array of probabilities. -/
theorem flushed_map (c : Dev nD) (t : Fin cfg0.N) :
    (dats m 0 c).flushed 1 t = (win0_1.blk t).view.read (Elt Ideal) (mapArray (logits m c)) := by
  obtain ⟨-, h1, -⟩ := idx_facts t
  show (cfg0.win 1).cut (grid0.coords t) ((dats m 0 c).after 1 t) = _
  rw [after0_1]
  funext j
  obtain ⟨b, k, h, w, rfl⟩ : ∃ (b : Fin 2) (k : Fin 64) (h w : Fin 128), j = ix4 b k h w :=
    ⟨j 0, j 1, j 2, j 3, by funext a; fin_cases a <;> rfl⟩
  rw [View.read_apply]
  show (outsAt0 m c t).1 (ix4 b k h w) = _
  unfold outsAt0
  dsimp only
  rw [out_map, image_iblk]
  show mapArray (logits m c) (ix4 (place t b) k h w) = mapArray (logits m c) _
  congr 1
  funext a
  apply Fin.ext
  match a with
  | ⟨0, _⟩ => show 2 * t.val + b.val = win0_1.index t 0 * 2 + 1 * b.val; rw [h1]; simp; omega
  | ⟨1, _⟩ => show k.val = win0_1.index t 1 * 64 + 1 * k.val; rw [h1]; simp
  | ⟨2, _⟩ => show h.val = win0_1.index t 2 * 128 + 1 * h.val; rw [h1]; simp
  | ⟨3, _⟩ => show w.val = win0_1.index t 3 * 128 + 1 * w.val; rw [h1]; simp

/-- The array of one number per image and keypoint, read at an index given by its coordinates' values. -/
theorem rowArray_at (q : Image → Fin 64 → EReal) (X : S32x64x128x128.Idx → EReal) (t : Fin cfg0.N) (b : Fin 2) (k : Fin 64)
    (i : S32x1x64.Idx) (h0 : (i 0).val = t.val * 2 + 1 * b.val) (h2 : (i 2).val = 0 * 64 + 1 * k.val) :
    q (image (n := 32) X (place t b)) k = rowArray q X i := by
  have e0 : i 0 = place t b := Fin.ext (by rw [h0]; simp [place]; omega)
  have e2 : i 2 = k := Fin.ext (by rw [h2]; simp)
  unfold rowArray
  rw [e0, e2]

/-- An index of a block of 2 × 1 × 64 numbers, by its coordinates. -/
theorem idx_row (j : S2x1x64.Idx) : ∃ (b : Fin 2) (k : Fin 64), j = ix3 b (0 : Fin 1) k :=
  ⟨j 0, j 2, by funext a; fin_cases a <;> first | rfl | exact Subsingleton.elim (α := Fin 1) _ _⟩

/-- Point `t` writes block `t` of the array of masses. -/
theorem flushed_zeta (c : Dev nD) (t : Fin cfg0.N) :
    (dats m 0 c).flushed 2 t = (win0_2.blk t).view.read (Elt Ideal) (rowArray zetaOf (logits m c)) := by
  obtain ⟨-, -, h, -⟩ := idx_facts t
  show (cfg0.win 2).cut (grid0.coords t) ((dats m 0 c).after 2 t) = _
  rw [after0_2]
  funext j
  obtain ⟨b, k, rfl⟩ := idx_row j
  rw [View.read_apply]
  show (outsAt0 m c t).2.1 (ix3 b (0 : Fin 1) k) = _
  unfold outsAt0
  dsimp only
  rw [out_zeta, image_iblk]
  refine rowArray_at zetaOf _ t b k _ ?_ ?_
  · show win0_2.index t 0 * 2 + 1 * b.val = _; rw [h]; rfl
  · show win0_2.index t 2 * 64 + 1 * k.val = _; rw [h]; rfl

/-- Point `t` writes block `t` of the array of mean columns. -/
theorem flushed_kpx (c : Dev nD) (t : Fin cfg0.N) :
    (dats m 0 c).flushed 3 t = (win0_3.blk t).view.read (Elt Ideal) (rowArray kpxOf (logits m c)) := by
  obtain ⟨-, -, -, h, -⟩ := idx_facts t
  show (cfg0.win 3).cut (grid0.coords t) ((dats m 0 c).after 3 t) = _
  rw [after0_3]
  funext j
  obtain ⟨b, k, rfl⟩ := idx_row j
  rw [View.read_apply]
  show (outsAt0 m c t).2.2.1 (ix3 b (0 : Fin 1) k) = _
  unfold outsAt0
  dsimp only
  rw [out_kpx, image_iblk]
  refine rowArray_at kpxOf _ t b k _ ?_ ?_
  · show win0_3.index t 0 * 2 + 1 * b.val = _; rw [h]; rfl
  · show win0_3.index t 2 * 64 + 1 * k.val = _; rw [h]; rfl

/-- Point `t` writes block `t` of the array of mean rows. -/
theorem flushed_kpy (c : Dev nD) (t : Fin cfg0.N) :
    (dats m 0 c).flushed 4 t = (win0_4.blk t).view.read (Elt Ideal) (rowArray kpyOf (logits m c)) := by
  obtain ⟨-, -, -, -, h⟩ := idx_facts t
  show (cfg0.win 4).cut (grid0.coords t) ((dats m 0 c).after 4 t) = _
  rw [after0_4]
  funext j
  obtain ⟨b, k, rfl⟩ := idx_row j
  rw [View.read_apply]
  show (outsAt0 m c t).2.2.2 (ix3 b (0 : Fin 1) k) = _
  unfold outsAt0
  dsimp only
  rw [out_kpy, image_iblk]
  refine rowArray_at kpyOf _ t b k _ ?_ ?_
  · show win0_4.index t 0 * 2 + 1 * b.val = _; rw [h]; rfl
  · show win0_4.index t 2 * 64 + 1 * k.val = _; rw [h]; rfl

/-- The point whose block holds image `n`. -/
def pointOf (n : Fin 32) : Fin cfg0.N := ⟨n.val / 2, by have := n.isLt; have h16 : cfg0.N = 16 := N_0; omega⟩

/-- The array of probabilities after the run. -/
theorem final_map (c : Dev nD) : (dats m 0 c).arrAt 1 cfg0.N = mapArray (logits m c) :=
  (dats m 0 c).arrAt_eq_of_cover 1 (mapArray (logits m c)) (fun t _ => flushed_map m c t) fun i => by
    refine ⟨pointOf (i 0), flush0_1 _, ?_⟩
    obtain ⟨-, h, -⟩ := idx_facts (pointOf (i 0))
    show i ∈ ((View.whole main_v0_0).slice (win0_1.rect (pointOf (i 0)))).set
    rw [View.set_slice_whole, Rect.mem_set_unit]
    intro a
    have b0 : (i 0).val < 32 := (i 0).isLt
    match a with
    | ⟨0, _⟩ =>
      show win0_1.index (pointOf (i 0)) 0 * 2 ≤ (i 0).val ∧ (i 0).val < win0_1.index (pointOf (i 0)) 0 * 2 + 2
      rw [h]; show (i 0).val / 2 * 2 ≤ _ ∧ _ < (i 0).val / 2 * 2 + 2; omega
    | ⟨1, _⟩ =>
      show win0_1.index (pointOf (i 0)) 1 * 64 ≤ (i 1).val ∧ (i 1).val < win0_1.index (pointOf (i 0)) 1 * 64 + 64
      rw [h]; exact ⟨Nat.zero_le _, (Nat.zero_add 64).symm ▸ (i 1).isLt⟩
    | ⟨2, _⟩ =>
      show win0_1.index (pointOf (i 0)) 2 * 128 ≤ (i 2).val ∧ (i 2).val < win0_1.index (pointOf (i 0)) 2 * 128 + 128
      rw [h]; exact ⟨Nat.zero_le _, (Nat.zero_add 128).symm ▸ (i 2).isLt⟩
    | ⟨3, _⟩ =>
      show win0_1.index (pointOf (i 0)) 3 * 128 ≤ (i 3).val ∧ (i 3).val < win0_1.index (pointOf (i 0)) 3 * 128 + 128
      rw [h]; exact ⟨Nat.zero_le _, (Nat.zero_add 128).symm ▸ (i 3).isLt⟩

/-- A block of 2 × 1 × 64 numbers covers the numbers of its two images. -/
theorem row_mem {x : Fin 3 → ℕ} (i : S32x1x64.Idx) (h : x = ![(pointOf (i 0)).val, 0, 0]) (a : Fin 3) :
    x a * S2x1x64.size a ≤ (i a).val ∧ (i a).val < x a * S2x1x64.size a + S2x1x64.size a := by
  subst h
  have b0 : (i 0).val < 32 := (i 0).isLt
  have b1 : (i 1).val < 1 := (i 1).isLt
  have b2 : (i 2).val < 64 := (i 2).isLt
  match a with
  | ⟨0, _⟩ => show (i 0).val / 2 * 2 ≤ (i 0).val ∧ (i 0).val < (i 0).val / 2 * 2 + 2; omega
  | ⟨1, _⟩ => show 0 * 1 ≤ (i 1).val ∧ (i 1).val < 0 * 1 + 1; omega
  | ⟨2, _⟩ => show 0 * 64 ≤ (i 2).val ∧ (i 2).val < 0 * 64 + 64; omega

/-- The array of masses after the run. -/
theorem final_zeta (c : Dev nD) : (dats m 0 c).arrAt 2 cfg0.N = rowArray zetaOf (logits m c) :=
  (dats m 0 c).arrAt_eq_of_cover 2 (rowArray zetaOf (logits m c)) (fun t _ => flushed_zeta m c t) fun i => by
    refine ⟨pointOf (i 0), flush0_2 _, ?_⟩
    show i ∈ ((View.whole main_v0_1).slice (win0_2.rect (pointOf (i 0)))).set
    rw [View.set_slice_whole, Rect.mem_set_unit]
    exact row_mem i (idx_facts (pointOf (i 0))).2.2.1

/-- The array of mean columns after the run. -/
theorem final_kpx (c : Dev nD) : (dats m 0 c).arrAt 3 cfg0.N = rowArray kpxOf (logits m c) :=
  (dats m 0 c).arrAt_eq_of_cover 3 (rowArray kpxOf (logits m c)) (fun t _ => flushed_kpx m c t) fun i => by
    refine ⟨pointOf (i 0), flush0_3 _, ?_⟩
    show i ∈ ((View.whole main_v0_2).slice (win0_3.rect (pointOf (i 0)))).set
    rw [View.set_slice_whole, Rect.mem_set_unit]
    exact row_mem i (idx_facts (pointOf (i 0))).2.2.2.1

/-- The array of mean rows after the run. -/
theorem final_kpy (c : Dev nD) : (dats m 0 c).arrAt 4 cfg0.N = rowArray kpyOf (logits m c) :=
  (dats m 0 c).arrAt_eq_of_cover 4 (rowArray kpyOf (logits m c)) (fun t _ => flushed_kpy m c t) fun i => by
    refine ⟨pointOf (i 0), flush0_4 _, ?_⟩
    show i ∈ ((View.whole main_v0_3).slice (win0_4.rect (pointOf (i 0)))).set
    rw [View.set_slice_whole, Rect.mem_set_unit]
    exact row_mem i (idx_facts (pointOf (i 0))).2.2.2.2

end Cert.Keypoint
-- ==== Proof.KernelRun.lean ====
/-
  What a whole run of the kernel ends with: the array of probabilities, the masses, and the two rounded means side by side,
  after the few array operations that follow the grid.
-/
module

public import proofs.«01_k».proof.Proof.Arrays

@[expose] public section

set_option maxRecDepth 16384

noncomputable section

open Idealize.ShloMosaic Idealize.ShloMosaic.TcCoe Idealize.ShloMosaic.Tactic Idealize.SL.Sem
open Idealize.ShloMosaic.StableHlo
open Cert.KernelIdeal Cert.KernelIdeal.Gen

namespace Cert.Keypoint

/-- The masses as the kernel returns them. -/
def massArray (X : S32x64x128x128.Idx → EReal) : S32x64.Idx → EReal :=
  fun i => zetaOf (image (n := 32) X (i 0)) (i 1)

/-- The rounded means as the kernel returns them: column first, row second. -/
def keypointArray (X : S32x64x128x128.Idx → EReal) : S32x64x2.Idx → EReal :=
  fun i => if (i 2).val < 1 then kpxOf (image (n := 32) X (i 0)) (i 1) else kpyOf (image (n := 32) X (i 0)) (i 1)

/-- Dropping the unit axis of an array of one number per image and keypoint. -/
theorem drop_unit (q : Image → Fin 64 → EReal) (X : S32x64x128x128.Idx → EReal) :
    (shapeCast S32x64 (rowArray q X : FVec Ideal S32x1x64 .f32) shapeCasts_S32x1x64_S32x64 : FVec Ideal S32x64 .f32)
      = fun i => q (image (n := 32) X (i 0)) (i 1) := by
  funext i
  idx_vars i
  pointwise [rowArray]

/-- The two means set side by side. -/
theorem side_by_side (p q : S32x64.Idx → EReal) (i : S32x64x2.Idx) :
    (concatenate S32x64x2 2 [⟨S32x64x1, broadcastInDim S32x64x1 ![0, 1] bcast_S32x64_S32x64x1_0_1 (p : FVec Ideal S32x64 .f32)⟩,
      ⟨S32x64x1, broadcastInDim S32x64x1 ![0, 1] bcast_S32x64_S32x64x1_0_1 (q : FVec Ideal S32x64 .f32)⟩]
      concatenates_S32x64x1_S32x64x1_S32x64x2_d2 : FVec Ideal S32x64x2 .f32) i
      = if (i 2).val < 1 then p (ix2 (i 0) (i 1)) else q (ix2 (i 0) (i 1)) := by
  idx_vars i
  pointwise []
  rfl

variable (V : Valuation τ sig (Elt Ideal))

/-- The masses after the operations behind the grid, whatever the buffers hold before them. -/
theorem tail_mass : after (hostOps1 (F := Ideal)) V (Proc.devRef .tc main_v1)
    = shapeCast S32x64 (V (Proc.devRef .tc main_v0_1) : FVec Ideal S32x1x64 .f32) shapeCasts_S32x1x64_S32x64 := by
  after_results <;> rfl

/-- The means after the operations behind the grid, whatever the buffers hold before them. -/
theorem tail_keypoint : after (hostOps1 (F := Ideal)) V (Proc.devRef .tc main_v6)
    = concatenate S32x64x2 2
      [⟨S32x64x1, broadcastInDim S32x64x1 ![0, 1] bcast_S32x64_S32x64x1_0_1
        (shapeCast S32x64 (V (Proc.devRef .tc main_v0_2) : FVec Ideal S32x1x64 .f32) shapeCasts_S32x1x64_S32x64)⟩,
       ⟨S32x64x1, broadcastInDim S32x64x1 ![0, 1] bcast_S32x64_S32x64x1_0_1
        (shapeCast S32x64 (V (Proc.devRef .tc main_v0_3) : FVec Ideal S32x1x64 .f32) shapeCasts_S32x1x64_S32x64)⟩]
      concatenates_S32x64x1_S32x64x1_S32x64x2_d2 := by
  after_results <;> rfl

variable (m : (ℓ : Loc nD τ sig) → Buf (Elt Ideal) ℓ) (ρ : Dev nD → PrngReg)

/-- What the arrays hold when the grid is done. -/
abbrev atExit (c : Dev nD) : Valuation τ sig (Elt Ideal) :=
  Pipeline.withArrays spec0 c (V0 m c) fun w => (dats m 0 c).arrAt w cfg0.N

/-- The masses at the end of the run. -/
theorem end_mass (c : Dev nD) :
    Pipeline.afterTail₀ cfgs (dats m) 0 (V0 m) [hostOps1] c main_v1 = massArray (logits m c) := by
  have e : atExit m c (Proc.devRef .tc main_v0_1) = rowArray zetaOf (logits m c) :=
    (Pipeline.withArrays_arr spec0 launch0.win.arr_inj c _ _ 2).trans (final_zeta m c)
  refine (tail_mass (atExit m c)).trans ?_
  rw [e]
  exact drop_unit zetaOf (logits m c)

/-- The means at the end of the run. -/
theorem end_keypoint (c : Dev nD) :
    Pipeline.afterTail₀ cfgs (dats m) 0 (V0 m) [hostOps1] c main_v6 = keypointArray (logits m c) := by
  have ex : atExit m c (Proc.devRef .tc main_v0_2) = rowArray kpxOf (logits m c) :=
    (Pipeline.withArrays_arr spec0 launch0.win.arr_inj c _ _ 3).trans (final_kpx m c)
  have ey : atExit m c (Proc.devRef .tc main_v0_3) = rowArray kpyOf (logits m c) :=
    (Pipeline.withArrays_arr spec0 launch0.win.arr_inj c _ _ 4).trans (final_kpy m c)
  refine (tail_keypoint (atExit m c)).trans ?_
  rw [ex, ey]
  rw [drop_unit kpxOf (logits m c), drop_unit kpyOf (logits m c)]
  funext i
  exact side_by_side _ _ i

/-- The run of the kernel: its three results as functions of the logits, its arguments unchanged. -/
theorem kernel_run :
    θ_run defs (onTc (τ := τ) (main (F := Ideal))) ⟨m, fun _ => 0, ρ⟩ fun r => ∀ c : Dev nD,
      r.2.mem ((c : Thread nD τ).loc main_v0_0) = mapArray (logits m c)
      ∧ r.2.mem ((c : Thread nD τ).loc main_v6) = keypointArray (logits m c)
      ∧ r.2.mem ((c : Thread nD τ).loc main_v1) = massArray (logits m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 1).trans (final_map m c),
      ((h c).2 main_v6 (Pipeline.mem_restRefs_of main_v6 (by decide) (by decide))).trans (end_keypoint m c),
      ((h c).2 main_v1 (Pipeline.mem_restRefs_of main_v1 (by decide) (by decide))).trans (end_mass m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Keypoint
-- ==== Proof.Reference.lean ====
/-
  What a run of the reference ends with, read one element at a time: the softmax of the logits over the keypoints, its
  mass per map, and the mean column and row of the map, rounded.
-/
module

public import proofs.«01_k».proof.Proof.Image
public import proofs.«01_k».proof.Proof.Gen.ReferenceIdeal.Read

@[expose] public section

set_option maxRecDepth 16384

noncomputable section

open Idealize.ShloMosaic Idealize.ShloMosaic.TcCoe Idealize.ShloMosaic.Tactic Idealize.SL.Sem
open Cert.ReferenceIdeal Cert.ReferenceIdeal.Gen Cert.ReferenceIdeal.Read

namespace Cert.Keypoint

/-- The pattern the maximum starts from is minus infinity. -/
theorem ofBits_neg_inf : Ideal.ofBits .f32 0xFF800000#32 = ⊥ := by
  simp [Ideal.ofBits, Ideal.ieee]

/-- The greatest logit of a pixel, over the keypoints. -/
def peak (f : Image) (h w : Fin 128) : EReal := Finset.univ.fold max ⊥ fun k => f k h w

/-- The exponential of a logit, the greatest one of its pixel taken off first. -/
def refExpo (f : Image) (k : Fin 64) (h w : Fin 128) : EReal := Ideal.exp (f k h w - peak f h w)

/-- The softmax over the keypoints, as the reference states it. -/
def refProb (f : Image) : Image := fun k h w => Ideal.div (refExpo f k h w) (∑ x, refExpo f x h w)

/-- The mass of a map. -/
def refMass (p : Image) (k : Fin 64) : EReal := ∑ h, ∑ w, p k h w

/-- The mean column of a map, rounded. -/
def refKpx (p : Image) (k : Fin 64) : EReal :=
  Ideal.liftRound Ideal.roundHalfEven (Ideal.div (∑ w : Fin 128, (∑ h, p k h w) * ((w : ℕ) : ℝ)) (refMass p k))

/-- The mean row of a map, rounded. -/
def refKpy (p : Image) (k : Fin 64) : EReal :=
  Ideal.liftRound Ideal.roundHalfEven (Ideal.div (∑ h : Fin 128, (∑ w, p k h w) * ((h : ℕ) : ℝ)) (refMass p k))

variable (X : S32x64x128x128.Idx → EReal)

/-- The reference's greatest logit of a pixel. -/
theorem ref_peak (b : Fin 32) (h w : Fin 128) : val_main_v0 (F := Ideal) X (ix3 b h w) = peak (image (n := 32) X b) h w := by
  pointwise [val_main_v0, val_main_cst]
  rw [ofBits_neg_inf]
  rfl

/-- The reference's exponentials: the greatest logit is compared with minus infinity once more, which changes nothing. -/
theorem ref_expo (b : Fin 32) (k : Fin 64) (h w : Fin 128) :
    val_main_v6 (F := Ideal) X (ix4 b k h w) = refExpo (image (n := 32) X b) k h w := by
  have e : idx_main_v3 (idx_main_v4 (ix4 b k h w)) = ix3 b h w := by
    funext a
    fin_cases a <;> rfl
  rw [val_main_v6_apply, val_main_v5_apply, val_main_v4_apply, val_main_v3_apply, val_main_v2_apply, e, ref_peak,
    val_main_v1_apply, val_main_cst_0_apply]
  show Ideal.exp (X (ix4 b k h w) - max (Ideal.ofBits .f32 0xFF800000#32) (peak (image (n := 32) X b) h w)) = _
  rw [ofBits_neg_inf, max_bot_left]
  rfl

/-- The reference's first result is the softmax. -/
theorem ref_map (b : Fin 32) (k : Fin 64) (h w : Fin 128) :
    val_main_v10 (F := Ideal) X (ix4 b k h w) = refProb (image (n := 32) X b) k h w := by
  pointwise [val_main_v10, val_main_v9, val_main_v8, val_main_v7, val_main_cst_1]
  simp only [ref_expo]
  rfl

/-- A sum over the last two axes, one axis after the other. -/
theorem sum_last_two (P : S32x64x128x128.Idx → EReal) (b : Fin 32) (k : Fin 64) :
    Ideal.hostReduceAdd reducesTo_S32x64x128x128_S32x64_d2_3 P 0 (ix2 b k) = ∑ h, ∑ w, P (ix4 b k h w) := by
  unfold Ideal.hostReduceAdd
  rw [zero_add, ← Fintype.sum_prod_type']
  refine Finset.sum_nbij' (fun i => (i 2, i 3)) (fun q => ix4 b k q.1 q.2) (fun _ _ => Finset.mem_univ _) ?_ ?_
    (fun _ _ => rfl) ?_
  · intro q _
    refine Finset.mem_filter.mpr ⟨Finset.mem_univ _, ?_⟩
    funext a
    fin_cases a <;> rfl
  · intro i hi
    have e := (Finset.mem_filter.mp hi).2
    have e0 : i 0 = b := congrFun e 0
    have e1 : i 1 = k := congrFun e 1
    funext a
    fin_cases a
    · exact e0.symm
    · exact e1.symm
    · rfl
    · rfl
  · intro i hi
    have e := (Finset.mem_filter.mp hi).2
    have e0 : i 0 = b := congrFun e 0
    have e1 : i 1 = k := congrFun e 1
    congr 1
    funext a
    fin_cases a
    · exact e0
    · exact e1
    · rfl
    · rfl

/-- The reference's third result is the mass of each map. -/
theorem ref_mass (b : Fin 32) (k : Fin 64) :
    val_main_v11 (F := Ideal) X (ix2 b k) = refMass (refProb (image (n := 32) X b)) k := by
  have e := sum_last_two (val_main_v10 (F := Ideal) X) b k
  simp only [ref_map] at e
  refine Eq.trans ?_ e
  show Ideal.hostReduceAdd _ _ (Ideal.ofBits .f32 0x00000000#32) _ = _
  rw [show Ideal.ofBits .f32 0x00000000#32 = 0 from Ideal.ofBits_zero_f32]

/-- The reference's second result is the two rounded means, column first. -/
theorem ref_keypoint (b : Fin 32) (k : Fin 64) (j : Fin 2) :
    val_main_v24 (F := Ideal) X (ix3 b k j)
      = if j.val < 1 then refKpx (refProb (image (n := 32) X b)) k else refKpy (refProb (image (n := 32) X b)) k := by
  pointwise [val_main_v24, val_main_v23, val_main_v22, val_main_v21, val_main_v20, val_main_v19, val_main_v18, val_main_v17, val_main_v16, val_main_v15, val_main_v14, val_main_v13, val_main_v12, val_main_cst_3, val_main_cst_4]
  simp only [ref_map, ref_mass, fun w : Fin 128 => sitofp_ofNat w w.isLt]
  rfl

/-- The softmax of the whole batch. -/
def refMapArray : S32x64x128x128.Idx → EReal := fun i => refProb (image (n := 32) X (i 0)) (i 1) (i 2) (i 3)

/-- The masses of the whole batch. -/
def refMassArray : S32x64.Idx → EReal := fun i => refMass (refProb (image (n := 32) X (i 0))) (i 1)

/-- The rounded means of the whole batch, column first. -/
def refKeypointArray : S32x64x2.Idx → EReal := fun i =>
  if (i 2).val < 1 then refKpx (refProb (image (n := 32) X (i 0))) (i 1) else refKpy (refProb (image (n := 32) X (i 0))) (i 1)

/-- The first result as an array. -/
theorem val_map : val_main_v10 (F := Ideal) X = refMapArray X := by
  funext i
  idx_vars i
  exact ref_map X ..

/-- The third result as an array. -/
theorem val_mass : val_main_v11 (F := Ideal) X = refMassArray X := by
  funext i
  idx_vars i
  exact ref_mass X ..

/-- The second result as an array. -/
theorem val_keypoint : val_main_v24 (F := Ideal) X = refKeypointArray X := by
  funext i
  idx_vars i
  exact ref_keypoint X ..

/-- The run of the reference: its three results as functions of the logits, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = refMapArray (m ((c.tc : Thread nD τ).loc main_arg0))
      ∧ r.2.mem ((c.tc : Thread nD τ).loc main_v24) = refKeypointArray (m ((c.tc : Thread nD τ).loc main_arg0))
      ∧ r.2.mem ((c.tc : Thread nD τ).loc main_v11) = refMassArray (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1.trans (val_main_v10_eq _)).trans (val_map _),
      ((h c).2.1.trans (val_main_v24_eq m c)).trans (val_keypoint _),
      ((h c).2.2.1.trans (val_main_v11_eq _)).trans (val_mass _), (h c).2.2.2⟩)
    (Cert.ReferenceIdeal.Value.run m ρ)

end Cert.Keypoint
-- ==== Proof.Equation.lean ====
/-
  The equation: for an image of finite logits the kernel's four quantities are the reference's. The exponentials without a
  shift and with one differ by a factor that the quotient loses; a sum over sixteen row tiles of eight rows is a sum over the
  128 rows; the weight of row `r` of tile `t` is its row number `8 t + r`.
-/
module

public import proofs.«01_k».proof.Proof.Reference

@[expose] public section

noncomputable section

open Idealize.ShloMosaic

namespace Cert.Keypoint

/-! ## Sums -/

/-- A finite sum of real numbers, read as an extended real. -/
theorem coe_sum {ι : Type} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s

/-- The row number of row `r` of tile `t`. -/
theorem row_val {t : ℕ} (ht : t < 16) (r : Fin 8) : (row t r).val = 8 * t + r.val := by
  show (8 * t + r.val) % 128 = _
  omega

/-- A sum over the rows of all tiles is a sum over the rows of the image. -/
theorem sum_tiles {M : Type} [AddCommMonoid M] (F : Fin 128 → M) :
    ∑ r : Fin 8, ∑ t ∈ Finset.range 16, F (row t r) = ∑ h, F h := by
  rw [Finset.sum_comm, Finset.sum_range, ← (finProdFinEquiv : Fin 16 × Fin 8 ≃ Fin (16 * 8)).sum_comp, Fintype.sum_prod_type]
  refine Finset.sum_congr rfl fun t _ => Finset.sum_congr rfl fun r _ => congrArg F (Fin.ext ?_)
  rw [row_val t.isLt]
  show 8 * t.val + r.val = r.val + 8 * t.val
  omega

/-- The same for a sum over rows and columns. -/
theorem sum_pixels {M : Type} [AddCommMonoid M] (F : Fin 128 → Fin 128 → M) :
    ∑ r : Fin 8, ∑ w, ∑ t ∈ Finset.range 16, F (row t r) w = ∑ h, ∑ w, F h w := by
  rw [← sum_tiles fun h => ∑ w, F h w]
  exact Finset.sum_congr rfl fun r _ => Finset.sum_comm

/-! ## The softmax -/

/-- Every element of the image is a real number. -/
def IsReal (f : Image) : Prop := ∃ g : Fin 64 → Fin 128 → Fin 128 → ℝ, ∀ k h w, f k h w = (g k h w : EReal)

/-- The greatest logit of a pixel is one of its logits. -/
theorem peak_mem (f : Image) (h w : Fin 128) : ∃ k, peak f h w = f k h w := by
  obtain ⟨k, -, e⟩ := Finset.exists_mem_eq_sup (Finset.univ : Finset (Fin 64)) Finset.univ_nonempty fun k => f k h w
  exact ⟨k, e⟩

/-- One over a positive real. -/
theorem one_div_coe {z : ℝ} (hz : z ≠ 0) : Ideal.div 1 (z : EReal) = ((1 / z : ℝ) : EReal) := by
  rw [Ideal.div_coe hz, one_mul]

/-- Softmax over real logits: exponential over the sum of exponentials. -/
def soft (g : Fin 64 → Fin 128 → Fin 128 → ℝ) (k : Fin 64) (h w : Fin 128) : ℝ :=
  Real.exp (g k h w) * (1 / ∑ x, Real.exp (g x h w))

/-- A sum of exponentials is not zero. -/
theorem sum_exp_pos (u : Fin 64 → ℝ) : 0 < ∑ x, Real.exp (u x) :=
  Finset.sum_pos (fun _ _ => Real.exp_pos _) Finset.univ_nonempty

/-- The softmax is positive. -/
theorem soft_pos (g : Fin 64 → Fin 128 → Fin 128 → ℝ) (k : Fin 64) (h w : Fin 128) : 0 < soft g k h w :=
  mul_pos (Real.exp_pos _) (one_div_pos.mpr (sum_exp_pos _))

variable {f : Image} {g : Fin 64 → Fin 128 → Fin 128 → ℝ}

/-- The kernel's normalised map is the softmax. -/
theorem prob_eq_soft (hg : ∀ k h w, f k h w = (g k h w : EReal)) (k : Fin 64) (h w : Fin 128) :
    prob f k h w = (soft g k h w : EReal) := by
  unfold prob recip expo soft
  simp only [hg, Ideal.exp_coe]
  rw [← coe_sum, one_div_coe (sum_exp_pos _).ne', ← EReal.coe_mul]

/-- The reference's normalised map is the softmax: taking the greatest logit off changes nothing. -/
theorem refProb_eq_soft (hg : ∀ k h w, f k h w = (g k h w : EReal)) (k : Fin 64) (h w : Fin 128) :
    refProb f k h w = (soft g k h w : EReal) := by
  obtain ⟨j, hj⟩ := peak_mem f h w
  have e (x : Fin 64) : refExpo f x h w = ((Real.exp (g x h w) * Real.exp (-g j h w) : ℝ) : EReal) := by
    rw [refExpo, hj, hg, hg, ← EReal.coe_sub, Ideal.exp_coe, sub_eq_add_neg, Real.exp_add]
  unfold refProb soft
  simp only [e]
  rw [← coe_sum, ← Finset.sum_mul, Ideal.div_coe (mul_pos (sum_exp_pos _) (Real.exp_pos _)).ne', ← EReal.coe_mul]
  congr 1
  have h1 := (sum_exp_pos fun x => g x h w).ne'
  have h2 := (Real.exp_pos (-g j h w)).ne'
  field_simp

/-- On finite logits the kernel's map is the reference's. -/
theorem prob_eq (hf : IsReal f) : prob f = refProb f := by
  obtain ⟨g, hg⟩ := hf
  funext k h w
  rw [prob_eq_soft hg, refProb_eq_soft hg]

/-- The map of an image of finite logits consists of positive real numbers. -/
theorem prob_real (hf : IsReal f) : ∃ p : Fin 64 → Fin 128 → Fin 128 → ℝ,
    (∀ k h w, 0 < p k h w) ∧ ∀ k h w, prob f k h w = (p k h w : EReal) := by
  obtain ⟨g, hg⟩ := hf
  exact ⟨soft g, soft_pos g, prob_eq_soft hg⟩

/-! ## The mass and the means -/

/-- The mass summed tile by tile is the mass of the whole map (for every image). -/
theorem zeta_eq (f : Image) (k : Fin 64) : zetaOf f k = refMass (prob f) k := sum_pixels fun h w => prob f k h w

/-- A quotient written as a product with the reciprocal. -/
theorem mul_one_div (x : EReal) {z : ℝ} (hz : z ≠ 0) : x * Ideal.div 1 (z : EReal) = Ideal.div x (z : EReal) := by
  rw [one_div_coe hz, Ideal.div_coe hz]

/-- The mass of a map of positive real numbers is a positive real number. -/
theorem mass_real {p : Fin 64 → Fin 128 → Fin 128 → ℝ} (hp : ∀ k h w, 0 < p k h w)
    (e : ∀ k h w, prob f k h w = (p k h w : EReal)) (k : Fin 64) :
    ∃ z : ℝ, z ≠ 0 ∧ refMass (prob f) k = (z : EReal) := by
  refine ⟨∑ h, ∑ w, p k h w, ?_, ?_⟩
  · exact (Finset.sum_pos (fun h _ => Finset.sum_pos (fun w _ => hp k h w) Finset.univ_nonempty) Finset.univ_nonempty).ne'
  · simp only [refMass, e, coe_sum]

/-- The rounded mean column. -/
theorem kpx_eq (hf : IsReal f) (k : Fin 64) : kpxOf f k = refKpx (prob f) k := by
  obtain ⟨p, hp, e⟩ := prob_real hf
  obtain ⟨z, hz, ez⟩ := mass_real hp e k
  unfold kpxOf refKpx
  rw [zeta_eq, ez, mul_one_div _ hz]
  congr 2
  simp only [acc, e]
  simp only [← coe_sum, ← EReal.coe_mul]
  congr 1
  rw [Finset.sum_comm]
  refine Finset.sum_congr rfl fun w _ => ?_
  rw [← Finset.sum_mul, sum_tiles fun h => p k h w]

/-- The rounded mean row. -/
theorem kpy_eq (hf : IsReal f) (k : Fin 64) : kpyOf f k = refKpy (prob f) k := by
  obtain ⟨p, hp, e⟩ := prob_real hf
  obtain ⟨z, hz, ez⟩ := mass_real hp e k
  unfold kpyOf refKpy
  rw [zeta_eq, ez, mul_one_div _ hz]
  congr 2
  simp only [acc, tacc, e]
  simp only [← coe_sum, ← EReal.coe_mul, ← EReal.coe_add]
  congr 1
  simp only [Finset.sum_mul]
  rw [← sum_pixels fun h w => p k h w * ((h : ℕ) : ℝ)]
  refine Finset.sum_congr rfl fun r _ => Finset.sum_congr rfl fun w _ => ?_
  rw [Finset.mul_sum, Finset.mul_sum, ← Finset.sum_add_distrib]
  refine Finset.sum_congr rfl fun t ht => ?_
  rw [row_val (Finset.mem_range.mp ht)]
  push_cast
  ring

end Cert.Keypoint
-- ==== Proof.Agree.lean ====
/-
  The three results of the kernel and of the reference, as arrays of the same logits: equal when every logit is finite.
-/
module

public import proofs.«01_k».proof.Proof.KernelRun
public import proofs.«01_k».proof.Proof.Equation

@[expose] public section

noncomputable section

open Idealize.ShloMosaic

namespace Cert.Keypoint

variable {X : Cert.KernelIdeal.S32x64x128x128.Idx → EReal} (hX : ∀ n : Fin 32, IsReal (image (n := 32) X n))
include hX

/-- The arrays of probabilities agree. -/
theorem map_agree : refMapArray X = mapArray X := by
  funext i
  exact (congrFun (congrFun (congrFun (prob_eq (hX (i 0))) (i 1)) (i 2)) (i 3)).symm

/-- The masses agree. -/
theorem mass_agree : refMassArray X = massArray X := by
  funext i
  have e (f : Image) (hf : IsReal f) (k : Fin 64) : refMass (refProb f) k = zetaOf f k := by rw [zeta_eq, prob_eq hf]
  exact e _ (hX (i 0)) (i 1)

/-- The rounded means agree. -/
theorem keypoint_agree : refKeypointArray X = keypointArray X := by
  funext i
  have e (f : Image) (hf : IsReal f) (k : Fin 64) (j : Fin 2) :
      (if j.val < 1 then refKpx (refProb f) k else refKpy (refProb f) k) = if j.val < 1 then kpxOf f k else kpyOf f k := by
    rw [kpx_eq hf, kpy_eq hf, prob_eq hf]
  exact e _ (hX (i 0)) (i 1) (i 2)

end Cert.Keypoint
-- ==== Proof.Finite.lean ====
/-
  The precondition, read one element at a time: where it holds, every logit is a real number.
-/
module

public import proofs.«01_k».proof.Pre_finite_maps
public import proofs.«01_k».proof.Proof.Equation

@[expose] public section

noncomputable section

open Idealize.ShloMosaic Idealize.ShloMosaic.Tactic

namespace Cert.Keypoint

/-- The one shape relation that the precondition states. -/
instance finite_facts : Cert.Pre_finite_maps.Facts := ⟨by decide⟩

/-- The pattern that the absolute values are compared with is plus infinity. -/
theorem ofBits_pos_inf : Ideal.ofBits .f32 0x7F800000#32 = ⊤ := by
  simp [Ideal.ofBits, Ideal.ieee]

/-- An extended real whose absolute value is below plus infinity is a real number. -/
theorem real_of_abs_lt {x : EReal} (h : max x (-x) < ⊤) : x = (x.toReal : EReal) := by
  induction x with
  | bot => simp at h
  | coe r => rfl
  | top => simp at h

/-- Under the precondition every logit is a real number. -/
theorem real_of_pre {X : FVec Ideal Cert.Pre_finite_maps.S32x64x128x128 .f32} {a b : IVec Cert.Pre_finite_maps.S_ 32}
    (h : Cert.Pre_finite_maps.fn (F := Ideal) X a b = fun _ => 1#1) (i : Cert.Pre_finite_maps.S32x64x128x128.Idx) :
    X i = ((X i : EReal).toReal : EReal) := by
  have e := congrFun h i
  have e' : Ideal.cmp .olt (max (X i : EReal) (-(X i : EReal))) (Ideal.ofBits .f32 0x7F800000#32) = 1#1 := e
  rw [ofBits_pos_inf] at e'
  refine real_of_abs_lt (by_contra fun n => ?_)
  simp [Ideal.cmp, n] at e'

/-- Under the precondition every image of the batch consists of real numbers. -/
theorem image_real {X : FVec Ideal Cert.Pre_finite_maps.S32x64x128x128 .f32} {a b : IVec Cert.Pre_finite_maps.S_ 32}
    (h : Cert.Pre_finite_maps.fn (F := Ideal) X a b = fun _ => 1#1) (n : Fin 32) : IsReal (image (n := 32) X n) :=
  ⟨fun k r w => (X (ix4 n k r w) : EReal).toReal, fun k r w => real_of_pre h (ix4 n k r w)⟩

end Cert.Keypoint
-- ==== Proof.lean ====
/-
  The proof of `Cert.Claim`: the kernel as printed, its reading over the extended reals and the reference run to their end,
  leave their arguments as they were and every semaphore counter at zero; the reading changes nothing of the kernel; and for
  finite logits the kernel's three results (the normalised maps, the rounded mean column and row of each map, the mass of each
  map) are the reference's, over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Keypoint

/-- The reference runs to its end and leaves its arguments as they were; it declares no semaphore. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩) (reference_run m ρ)

/-- For finite logits the kernel and the reference end with the same three results. -/
theorem algebraic : Cert.algebraic_KernelIdeal_ReferenceIdeal_pre_finite_maps := by
  intro m ρ m' ρ' hpre hagree
  have hX (c : Dev Cert.KernelIdeal.nD) (n : Fin 32) : IsReal (image (n := 32) (logits m c) n) := image_real (hpre c) n
  refine ⟨fun c => mapArray (logits m c), fun c => keypointArray (logits m c), fun c => massArray (logits m c),
    kernel_run m ρ, ?_⟩
  refine (θ_run Cert.ReferenceIdeal.defs _ _).mono (fun r h c => ?_) (reference_run m' ρ')
  obtain ⟨h0, h1, h2, hargs⟩ := h c
  rw [(hagree c).1] at h0 h1 h2
  exact ⟨h0.trans (map_agree (hX c)), h1.trans (keypoint_agree (hX c)), h2.trans (mass_agree (hX c)), hargs⟩

/-- All claims of the certificate. -/
theorem claim : Cert.Claim :=
  ⟨Cert.Kernel.Gen.facts, Cert.KernelIdeal.Gen.facts, Cert.ReferenceIdeal.Gen.facts, finite_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    algebraic⟩

end Cert.Proof

end
